-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x2048 : Shape := ⟨3, ![128, 1, 2048]⟩
abbrev S2048x2048 : Shape := ⟨2, ![2048, 2048]⟩
abbrev S2048 : Shape := ⟨1, ![2048]⟩
abbrev S256x2048 : Shape := ⟨2, ![256, 2048]⟩
abbrev S64x2048x256 : Shape := ⟨3, ![64, 2048, 256]⟩
abbrev S64x2048 : Shape := ⟨2, ![64, 2048]⟩
abbrev S128x2048 : Shape := ⟨2, ![128, 2048]⟩
abbrev S1x2048 : Shape := ⟨2, ![1, 2048]⟩
abbrev S2x2048x256 : Shape := ⟨3, ![2, 2048, 256]⟩
abbrev S64x128x256 : Shape := ⟨3, ![64, 128, 256]⟩
abbrev S128x256 : Shape := ⟨2, ![128, 256]⟩
abbrev S128x64 : Shape := ⟨2, ![128, 64]⟩
abbrev S128 : Shape := ⟨1, ![128]⟩
abbrev S128x1 : Shape := ⟨2, ![128, 1]⟩
abbrev S64x128 : Shape := ⟨2, ![64, 128]⟩
abbrev S64x128x1 : Shape := ⟨3, ![64, 128, 1]⟩
abbrev S1x128x256 : Shape := ⟨3, ![1, 128, 256]⟩
abbrev S128x128 : Shape := ⟨2, ![128, 128]⟩
abbrev S1x2048x256 : Shape := ⟨3, ![1, 2048, 256]⟩
abbrev S2048x256 : Shape := ⟨2, ![2048, 256]⟩

abbrev nBuf : Space → Nat
  | .hbm => 10
  | .vmem => 13
  | .smem => 0
  | _ => 0

abbrev bufTy : (tb : Table) → Fin (tcTables nBuf tb) → BufTy
  | .hbm, ⟨0, _⟩ => ⟨S128x1x2048, .f32⟩
  | .hbm, ⟨1, _⟩ => ⟨S2048x2048, .f32⟩
  | .hbm, ⟨2, _⟩ => ⟨S2048, .f32⟩
  | .hbm, ⟨3, _⟩ => ⟨S256x2048, .f32⟩
  | .hbm, ⟨4, _⟩ => ⟨S64x2048x256, .f32⟩
  | .hbm, ⟨5, _⟩ => ⟨S64x2048, .f32⟩
  | .hbm, ⟨6, _⟩ => ⟨S128x2048, .f32⟩
  | .hbm, ⟨7, _⟩ => ⟨S1x2048, .f32⟩
  | .hbm, ⟨8, _⟩ => ⟨S128x2048, .f32⟩
  | .hbm, ⟨9, _⟩ => ⟨S128x1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S1x2048, .f32⟩
  | .local _ .vmem, ⟨4, _⟩ => ⟨S256x2048, .f32⟩
  | .local _ .vmem, ⟨5, _⟩ => ⟨S64x2048, .f32⟩
  | .local _ .vmem, ⟨6, _⟩ => ⟨S2x2048x256, .f32⟩
  | .local _ .vmem, ⟨7, _⟩ => ⟨S2x2048x256, .f32⟩
  | .local _ .vmem, ⟨8, _⟩ => ⟨S2x2048x256, .f32⟩
  | .local _ .vmem, ⟨9, _⟩ => ⟨S2x2048x256, .f32⟩
  | .local _ .vmem, ⟨10, _⟩ => ⟨S128x2048, .f32⟩
  | .local _ .vmem, ⟨11, _⟩ => ⟨S128x2048, .bf16⟩
  | .local _ .vmem, ⟨12, _⟩ => ⟨S64x128x256, .bf16⟩
  | _, _ => ⟨S128x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c0_4 : Index := 0#32
  let arg0 : BitVec 32 := BitVec.ofNat 32 (i 0).val
  let c128_i32 : BitVec 32 := 128#32
  let v7 : BitVec 32 := Scalar.muli arg0 c128_i32
  let v8 : Index := Scalar.indexCast v7
  ![0, v8.toNat]
def k0_off2 (i : grid0.Coords) (c0_i32_6 : BitVec 32) : Fin 3 → Nat :=
  let arg0 : BitVec 32 := BitVec.ofNat 32 (i 0).val
  let c4_i32 : BitVec 32 := 4#32
  let v14 : BitVec 32 := Scalar.muli arg0 c4_i32
  let v15 : BitVec 32 := Scalar.addi v14 c0_i32_6
  let v16 : Index := Scalar.indexCast v15
  let c0_7 : Index := 0#32
  let c0_8 : Index := 0#32
  ![v16.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S128x1x2048 : Shape := ⟨3, ![128, 1, 2048]⟩
abbrev S2048x2048 : Shape := ⟨2, ![2048, 2048]⟩
abbrev S2048 : Shape := ⟨1, ![2048]⟩
abbrev S256x2048 : Shape := ⟨2, ![256, 2048]⟩
abbrev S64x2048x256 : Shape := ⟨3, ![64, 2048, 256]⟩
abbrev S64x2048 : Shape := ⟨2, ![64, 2048]⟩
abbrev S1x1x2048 : Shape := ⟨3, ![1, 1, 2048]⟩
abbrev S2048x256 : Shape := ⟨2, ![2048, 256]⟩
abbrev S128x1x256 : Shape := ⟨3, ![128, 1, 256]⟩
abbrev S2048x64 : Shape := ⟨2, ![2048, 64]⟩
abbrev S128x1x64 : Shape := ⟨3, ![128, 1, 64]⟩
abbrev S_ : Shape := ⟨0, ![]⟩
abbrev S128x1 : Shape := ⟨2, ![128, 1]⟩
abbrev S128x1x1 : Shape := ⟨3, ![128, 1, 1]⟩
abbrev S128x1x2 : Shape := ⟨3, ![128, 1, 2]⟩
abbrev S128x1x2x1 : Shape := ⟨4, ![128, 1, 2, 1]⟩
abbrev S1x1x1x64 : Shape := ⟨4, ![1, 1, 1, 64]⟩
abbrev S128x1x2x64 : Shape := ⟨4, ![128, 1, 2, 64]⟩
abbrev S128x1x64x1 : Shape := ⟨4, ![128, 1, 64, 1]⟩
abbrev S128x1x1x256 : Shape := ⟨4, ![128, 1, 1, 256]⟩
abbrev S128x1x64x256 : Shape := ⟨4, ![128, 1, 64, 256]⟩

abbrev nBuf : Space → Nat
  | .hbm => 55
  | .vmem => 0
  | .smem => 0
  | _ => 0

abbrev bufTy : (tb : Table) → Fin (tcTables nBuf tb) → BufTy
  | .hbm, ⟨0, _⟩ => ⟨S128x1x2048, .f32⟩
  | .hbm, ⟨1, _⟩ => ⟨S2048x2048, .f32⟩
  | .hbm, ⟨2, _⟩ => ⟨S2048, .f32⟩
  | .hbm, ⟨3, _⟩ => ⟨S256x2048, .f32⟩
  | .hbm, ⟨4, _⟩ => ⟨S64x2048x256, .f32⟩
  | .hbm, ⟨5, _⟩ => ⟨S64x2048, .f32⟩
  | .hbm, ⟨6, _⟩ => ⟨S2048x2048, .f32⟩
  | .hbm, ⟨7, _⟩ => ⟨S128x1x2048, .f32⟩
  | .hbm, ⟨8, _⟩ => ⟨S1x1x2048, .f32⟩
  | .hbm, ⟨9, _⟩ => ⟨S128x1x2048, .f32⟩
  | .hbm, ⟨10, _⟩ => ⟨S128x1x2048, .f32⟩
  | .hbm, ⟨11, _⟩ => ⟨S2048x256, .f32⟩
  | .hbm, ⟨12, _⟩ => ⟨S128x1x256, .f32⟩
  | .hbm, ⟨13, _⟩ => ⟨S2048x64, .f32⟩
  | .hbm, ⟨14, _⟩ => ⟨S128x1x64, .f32⟩
  | .hbm, ⟨15, _⟩ => ⟨S_, .f32⟩
  | .hbm, ⟨16, _⟩ => ⟨S128x1, .f32⟩
  | .hbm, ⟨17, _⟩ => ⟨S_, .f32⟩
  | .hbm, ⟨18, _⟩ => ⟨S128x1, .f32⟩
  | .hbm, ⟨19, _⟩ => ⟨S128x1, .f32⟩
  | .hbm, ⟨20, _⟩ => ⟨S128x1x1, .f32⟩
  | .hbm, ⟨21, _⟩ => ⟨S128x1x64, .f32⟩
  | .hbm, ⟨22, _⟩ => ⟨S128x1x64, .f32⟩
  | .hbm, ⟨23, _⟩ => ⟨S128x1x64, .f32⟩
  | .hbm, ⟨24, _⟩ => ⟨S_, .f32⟩
  | .hbm, ⟨25, _⟩ => ⟨S128x1, .f32⟩
  | .hbm, ⟨26, _⟩ => ⟨S128x1x1, .f32⟩
  | .hbm, ⟨27, _⟩ => ⟨S128x1x64, .f32⟩
  | .hbm, ⟨28, _⟩ => ⟨S128x1x64, .f32⟩
  | .hbm, ⟨29, _⟩ => ⟨S128x1x2, .f32⟩
  | .hbm, ⟨30, _⟩ => ⟨S128x1x2, .i32⟩
  | .hbm, ⟨31, _⟩ => ⟨S128x1x2x1, .i32⟩
  | .hbm, ⟨32, _⟩ => ⟨S1x1x1x64, .i32⟩
  | .hbm, ⟨33, _⟩ => ⟨S128x1x2x64, .i32⟩
  | .hbm, ⟨34, _⟩ => ⟨S128x1x2x64, .i32⟩
  | .hbm, ⟨35, _⟩ => ⟨S128x1x2x64, .i1⟩
  | .hbm, ⟨36, _⟩ => ⟨S128x1x2x64, .f32⟩
  | .hbm, ⟨37, _⟩ => ⟨S_, .f32⟩
  | .hbm, ⟨38, _⟩ => ⟨S128x1x64, .f32⟩
  | .hbm, ⟨39, _⟩ => ⟨S128x1x64, .f32⟩
  | .hbm, ⟨40, _⟩ => ⟨S_, .f32⟩
  | .hbm, ⟨41, _⟩ => ⟨S128x1, .f32⟩
  | .hbm, ⟨42, _⟩ => ⟨S128x1x1, .f32⟩
  | .hbm, ⟨43, _⟩ => ⟨S_, .f32⟩
  | .hbm, ⟨44, _⟩ => ⟨S128x1x1, .f32⟩
  | .hbm, ⟨45, _⟩ => ⟨S128x1x1, .f32⟩
  | .hbm, ⟨46, _⟩ => ⟨S128x1x64, .f32⟩
  | .hbm, ⟨47, _⟩ => ⟨S128x1x64, .f32⟩
  | .hbm, ⟨48, _⟩ => ⟨S128x1x64x1, .f32⟩
  | .hbm, ⟨49, _⟩ => ⟨S128x1x1x256, .f32⟩
  | .hbm, ⟨50, _⟩ => ⟨S128x1x64x256, .f32⟩
  | .hbm, ⟨51, _⟩ => ⟨S128x1x64x256, .f32⟩
  | .hbm, ⟨52, _⟩ => ⟨S128x1x64x256, .f32⟩
  | .hbm, ⟨53, _⟩ => ⟨S128x1x2048, .f32⟩
  | .hbm, ⟨54, _⟩ => ⟨S128x1x2048, .f32⟩
  | _, _ => ⟨S128x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_values : Ref sig .tc := ⟨.hbm, 29, rfl⟩
abbrev main_indices : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]
-- ==== Proof.Body.lean ====
module

public import proofs.«01_k».proof.Defs
public import proofs.«01_k».proof.Proof.Gen.KernelIdeal.Frame
public import Idealize.ShloMosaic.Lib.Pipeline.Value
public import Idealize.ShloMosaic.Lib.ValueIdx
public import Idealize.ShloMosaic.Lib.Tactic

@[expose] public section

set_option maxRecDepth 16384

noncomputable section

open Idealize.ShloMosaic Idealize.ShloMosaic.TcCoe Idealize.SL.Sem

namespace Cert.KernelIdeal.Body

open Cert.KernelIdeal Cert.KernelIdeal.Gen

variable {F : FTy → Type} [FloatOps F]

/-- Two zero offsets are the zero offset. -/
theorem zero_off2 : (![0, 0] : Fin 2 → Nat) = fun _ => 0 := funext fun a => by fin_cases a <;> rfl
/-- Three zero offsets are the zero offset. -/
theorem zero_off3 : (![0, 0, 0] : Fin 3 → Nat) = fun _ => 0 := funext fun a => by fin_cases a <;> rfl

/-- The four rows of weighted hidden activations that grid point `i` reads are rows `4 i + r` of the scratch. -/
def hiddenRow (i : grid0.Coords) (r : Fin 4) (hw : Vec F S64x128x256 .bf16) : Vec F S1x128x256 .bf16 :=
  View.ld hw (Rect.unit (s := S64x128x256) (k0_off2 i (BitVec.ofNat 32 r.val)) S1x128x256.size (k0_off2_inb i r))

/-- The first of the two experts in a block of up-projections. -/
def expertLo (b : Vec F S2x2048x256 .f32) : Vec F S1x2048x256 .f32 :=
  View.ld b (Rect.unit (s := S2x2048x256) ![0, 0, 0] S1x2048x256.size inb_S2x2048x256_S1x2048x256_0_0_0)

/-- The second of the two experts in a block of up-projections. -/
def expertHi (b : Vec F S2x2048x256 .f32) : Vec F S1x2048x256 .f32 :=
  View.ld b (Rect.unit (s := S2x2048x256) ![1, 0, 0] S1x2048x256.size inb_S2x2048x256_S1x2048x256_1_0_0)

/-- The 128 output columns grid point `i` adds its part of the base product to. -/
def colRect (i : grid0.Coords) : Rect S128x2048 :=
  Rect.unit (s := S128x2048) (k0_off1 i) S128x128.size (k0_off1_inb i)

/-- What one grid point makes of the accumulator `prev`, from the scratch and its blocks. -/
def step (i : grid0.Coords) (xb : Vec F S128x2048 .bf16) (hw : Vec F S64x128x256 .bf16) (w : Vec F S128x2048 .f32)
    (b0 b1 : Vec F S2x2048x256 .f32) (prev : Vec F S128x2048 .f32) : Vec F S128x2048 .f32 :=
  k0_pay1 (k0_pay14 (hiddenRow i 0 hw) (expertLo b0)) (k0_pay15 (hiddenRow i 1 hw)) (k0_pay16 (expertHi b0))
    (constant S128x2048 .f32 0x00000000#32) (hiddenRow i 2 hw) (expertLo b1) (hiddenRow i 3 hw) (expertHi b1)
    ((colRect i).overlay prev (k0_pay13 xb w (View.ld prev (colRect i))))

/-- The weighted hidden activations the first grid point leaves in the scratch. -/
def weighted (x : Vec F S128x2048 .f32) (a : Vec F S256x2048 .f32) (wr : Vec F S64x2048 .f32) : Vec F S64x128x256 .bf16 :=
  k0_pay11 (k0_pay4 x a) (k0_pay5 x wr) (iota .tc S128x64 32 [1] iota_S128x64_d1_w32) (k0_pay6 x wr) (k0_pay7 x wr)
    (k0_pay9 x wr) (k0_pay10 x wr)

/-- One write over known contents, read back whole, overlays its payload on them. -/
theorem read_one_write {sig : RefSig} {κ : Kind} {sp : Space} {s : Shape} {e : EltTy} {Val : EltTy → Type}
    [∀ e, Nonempty (Val e)] (v : View sig κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, r.overlay_emb]
  · have hy' : y ∉ Finset.univ.map r.emb := by rwa [Rect.map_emb_univ]
    rw [View.writes_cons, View.read_slice_write_of_not_mem r _ _ _ hy', r.overlay_of_not_mem _ _ hy, View.writes_nil]

/-- A covered load through a rectangle reads the composite of the writes there. -/
theorem readCov_eq_ld {sig : RefSig} {κ : Kind} {sp : Space} {s : Shape} {e : EltTy} {Val : EltTy → Type}
    [∀ e, Nonempty (Val e)] (v : View sig κ sp s e) (L : List (View.Piece Val s e)) (r : Rect s) :
    v.readCov L r.toLoadRect = View.ld (View.canon L) r := View.readCov_eq_canon' v L r.toLoadRect

/-- After the first grid point the first scratch holds the rounded input. -/
theorem scratch_x_A (c : Dev nD) (i : grid0.Coords) (a1 : Memref sig .tc .vmem S128x2048 .f32) (h1 : a1.IsWhole) (a2 : Memref sig .tc .vmem S128x2048 .f32) (h2 : a2.IsWhole) (a3 : Memref sig .tc .vmem S1x2048 .f32) (h3 : a3.IsWhole) (a4 : Memref sig .tc .vmem S256x2048 .f32) (h4 : a4.IsWhole) (a5 : Memref sig .tc .vmem S64x2048 .f32) (h5 : a5.IsWhole) (a6 : Memref sig .tc .vmem S2x2048x256 .f32) (h6 : a6.IsWhole) (a7 : Memref sig .tc .vmem S2x2048x256 .f32) (h7 : a7.IsWhole) (a8 : Memref sig .tc .vmem S128x2048 .f32) (h8 : a8.IsWhole) (a9 : Memref sig .tc .vmem S128x2048 .bf16) (h9 : a9.IsWhole) (a10 : Memref sig .tc .vmem S64x128x256 .bf16) (h10 : a10.IsWhole) (hc : cond0_0 i)
    (x0 : Vec F S128x2048 .f32) (x1 : Vec F S128x2048 .f32) (x2 : Vec F S1x2048 .f32) (x3 : Vec F S256x2048 .f32) (x4 : Vec F S64x2048 .f32) (x5 : Vec F S2x2048x256 .f32) (x6 : Vec F S2x2048x256 .f32) :
    sout0_A_0 c i a1 h1 a2 h2 a3 h3 a4 h4 a5 h5 a6 h6 a7 h7 a8 h8 a9 h9 a10 h10 hc x0 x1 x2 x3 x4 x5 x6 = k0_pay3 x0 := by
  unfold sout0_A_0
  rw [View.read_writes_eq_canon _ _ _ (scover0_A_0 c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_unit_zero zero_off2]
  simp only [View.readAt_eq_ld, h1.read_unread, View.ld_unit_zero (S := S128x2048) zero_off2]

/-- After the first grid point the second scratch holds the weighted hidden activations. -/
theorem scratch_h_A (c : Dev nD) (i : grid0.Coords) (a1 : Memref sig .tc .vmem S128x2048 .f32) (h1 : a1.IsWhole) (a2 : Memref sig .tc .vmem S128x2048 .f32) (h2 : a2.IsWhole) (a3 : Memref sig .tc .vmem S1x2048 .f32) (h3 : a3.IsWhole) (a4 : Memref sig .tc .vmem S256x2048 .f32) (h4 : a4.IsWhole) (a5 : Memref sig .tc .vmem S64x2048 .f32) (h5 : a5.IsWhole) (a6 : Memref sig .tc .vmem S2x2048x256 .f32) (h6 : a6.IsWhole) (a7 : Memref sig .tc .vmem S2x2048x256 .f32) (h7 : a7.IsWhole) (a8 : Memref sig .tc .vmem S128x2048 .f32) (h8 : a8.IsWhole) (a9 : Memref sig .tc .vmem S128x2048 .bf16) (h9 : a9.IsWhole) (a10 : Memref sig .tc .vmem S64x128x256 .bf16) (h10 : a10.IsWhole) (hc : cond0_0 i)
    (x0 : Vec F S128x2048 .f32) (x1 : Vec F S128x2048 .f32) (x2 : Vec F S1x2048 .f32) (x3 : Vec F S256x2048 .f32) (x4 : Vec F S64x2048 .f32) (x5 : Vec F S2x2048x256 .f32) (x6 : Vec F S2x2048x256 .f32) :
    sout0_A_1 c i a1 h1 a2 h2 a3 h3 a4 h4 a5 h5 a6 h6 a7 h7 a8 h8 a9 h9 a10 h10 hc x0 x1 x2 x3 x4 x5 x6
      = weighted x0 x3 x4 := by
  unfold sout0_A_1
  rw [View.read_writes_eq_canon _ _ _ (scover0_A_1 c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_unit_zero zero_off3]
  simp only [View.readAt_eq_ld, h1.read_unread, h4.read_unread, h5.read_unread, View.ld_unit_zero (S := S128x2048) zero_off2, View.ld_unit_zero (S := S256x2048) zero_off2, View.ld_unit_zero (S := S64x2048) zero_off2]
  rfl

/-- A later grid point takes one step from the accumulator and the scratch it finds. -/
theorem out_B (c : Dev nD) (i : grid0.Coords) (a1 : Memref sig .tc .vmem S128x2048 .f32) (h1 : a1.IsWhole) (a2 : Memref sig .tc .vmem S128x2048 .f32) (h2 : a2.IsWhole) (a3 : Memref sig .tc .vmem S1x2048 .f32) (h3 : a3.IsWhole) (a4 : Memref sig .tc .vmem S256x2048 .f32) (h4 : a4.IsWhole) (a5 : Memref sig .tc .vmem S64x2048 .f32) (h5 : a5.IsWhole) (a6 : Memref sig .tc .vmem S2x2048x256 .f32) (h6 : a6.IsWhole) (a7 : Memref sig .tc .vmem S2x2048x256 .f32) (h7 : a7.IsWhole) (a8 : Memref sig .tc .vmem S128x2048 .f32) (h8 : a8.IsWhole) (a9 : Memref sig .tc .vmem S128x2048 .bf16) (h9 : a9.IsWhole) (a10 : Memref sig .tc .vmem S64x128x256 .bf16) (h10 : a10.IsWhole) (hc : ¬cond0_0 i)
    (x0 : Vec F S128x2048 .f32) (x1 : Vec F S128x2048 .f32) (x2 : Vec F S1x2048 .f32) (x3 : Vec F S256x2048 .f32) (x4 : Vec F S64x2048 .f32) (x5 : Vec F S2x2048x256 .f32) (x6 : Vec F S2x2048x256 .f32) (xo : Vec F S128x2048 .f32) (xs0 : Vec F S128x2048 .bf16) (xs1 : Vec F S64x128x256 .bf16) :
    out0_B_7 c i a1 h1 a2 h2 a3 h3 a4 h4 a5 h5 a6 h6 a7 h7 a8 h8 a9 h9 a10 h10 hc x0 x1 x2 x3 x4 x5 x6 xo xs0 xs1
      = step i xs0 xs1 x1 x5 x6 xo := by
  unfold out0_B_7
  rw [View.read_writes_eq_canon _ _ _ (cover0_B_7 c i a1 h1 a2 h2 a3 h3 a4 h4 a5 h5 a6 h6 a7 h7 a8 h8 a9 h9 a10 h10 hc x0 x1 x2 x3 x4 x5 x6 xo xs0 xs1)]
  unfold kernelRun0_B
  dsimp only
  sl_unfold_words
  rw [View.canon_cons_unit_zero zero_off2]
  simp only [View.readAt_eq_ld, h2.read_unread, h9.read_unread, h10.read_unread, h6.read_unread, h7.read_unread, h8.read_unread, View.ld_unit_zero (S := S128x2048) zero_off2]
  rw [read_one_write, h8.read_unread]
  rfl

/-- The first grid point takes one step from the bias, with the scratch it has just written. -/
theorem out_A (c : Dev nD) (i : grid0.Coords) (a1 : Memref sig .tc .vmem S128x2048 .f32) (h1 : a1.IsWhole) (a2 : Memref sig .tc .vmem S128x2048 .f32) (h2 : a2.IsWhole) (a3 : Memref sig .tc .vmem S1x2048 .f32) (h3 : a3.IsWhole) (a4 : Memref sig .tc .vmem S256x2048 .f32) (h4 : a4.IsWhole) (a5 : Memref sig .tc .vmem S64x2048 .f32) (h5 : a5.IsWhole) (a6 : Memref sig .tc .vmem S2x2048x256 .f32) (h6 : a6.IsWhole) (a7 : Memref sig .tc .vmem S2x2048x256 .f32) (h7 : a7.IsWhole) (a8 : Memref sig .tc .vmem S128x2048 .f32) (h8 : a8.IsWhole) (a9 : Memref sig .tc .vmem S128x2048 .bf16) (h9 : a9.IsWhole) (a10 : Memref sig .tc .vmem S64x128x256 .bf16) (h10 : a10.IsWhole) (hc : cond0_0 i)
    (x0 : Vec F S128x2048 .f32) (x1 : Vec F S128x2048 .f32) (x2 : Vec F S1x2048 .f32) (x3 : Vec F S256x2048 .f32) (x4 : Vec F S64x2048 .f32) (x5 : Vec F S2x2048x256 .f32) (x6 : Vec F S2x2048x256 .f32) :
    out0_A_7 c i a1 h1 a2 h2 a3 h3 a4 h4 a5 h5 a6 h6 a7 h7 a8 h8 a9 h9 a10 h10 hc x0 x1 x2 x3 x4 x5 x6
      = step i (k0_pay3 x0) (weighted x0 x3 x4) x1 x5 x6 (k0_pay12 x2) := by
  unfold out0_A_7
  rw [View.read_writes_eq_canon _ _ _ (cover0_A_7 c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_cons_unit_zero zero_off2]
  simp only [View.readAt_eq_ld, h1.read_unread, h2.read_unread, h3.read_unread, h4.read_unread, h5.read_unread, h6.read_unread, h7.read_unread,
    View.read_writes_junk_eq_canon, readCov_eq_ld, View.canon_cons, View.canon_unit_zero (S := S128x2048) zero_off2,
    View.canon_unit_zero (S := S64x128x256) zero_off3, View.ld_unit_zero (S := S128x2048) zero_off2,
    View.ld_unit_zero (S := S256x2048) zero_off2, View.ld_unit_zero (S := S64x2048) zero_off2, View.ld_unit_zero (S := S1x2048) zero_off2]
  rfl

end Cert.KernelIdeal.Body
end
-- ==== Proof.Blocks.lean ====
module

public import proofs.«01_k».proof.Proof.Gen.KernelIdeal.Frame
public import Idealize.ShloMosaic.Lib.Pipeline.Value
public import Idealize.ShloMosaic.Lib.ValueIdx
public import Idealize.ShloMosaic.Lib.Tactic

@[expose] public section

set_option maxRecDepth 16384

noncomputable section

open Idealize.ShloMosaic Idealize.ShloMosaic.TcCoe Idealize.SL.Sem

namespace Cert.KernelIdeal.Blocks

open Cert.KernelIdeal Cert.KernelIdeal.Gen

variable {F : FTy → Type} [FloatOps F]
variable (m : (ℓ : Loc nD τ sig) → Buf (Elt F) ℓ)

/-- Grid point `t` has coordinate `t`. -/
theorem coord_val : ∀ t : Fin grid0.N, (grid0.coords t 0 : ℕ) = t.val := by decide +kernel

/-- The input window always shows the whole input. -/
theorem index_0 : ∀ t : Fin grid0.N, win0_0.index t 0 = 0 ∧ win0_0.index t 1 = 0 := by decide +kernel
/-- The base-weight window shows the block of 128 rows of its grid point. -/
theorem index_1 : ∀ t : Fin grid0.N, win0_1.index t 0 = t.val ∧ win0_1.index t 1 = 0 := by decide +kernel
/-- The bias window always shows the whole row. -/
theorem index_2 : ∀ t : Fin grid0.N, win0_2.index t 0 = 0 ∧ win0_2.index t 1 = 0 := by decide +kernel
/-- The down-projection window always shows the whole matrix. -/
theorem index_3 : ∀ t : Fin grid0.N, win0_3.index t 0 = 0 ∧ win0_3.index t 1 = 0 := by decide +kernel
/-- The router window always shows the whole matrix. -/
theorem index_4 : ∀ t : Fin grid0.N, win0_4.index t 0 = 0 ∧ win0_4.index t 1 = 0 := by decide +kernel
/-- The first expert window shows pair `2t` of the experts. -/
theorem index_5 : ∀ t : Fin grid0.N, win0_5.index t 0 = 2 * t.val ∧ win0_5.index t 1 = 0 ∧ win0_5.index t 2 = 0 := by decide +kernel
/-- The second expert window shows pair `2t + 1` of the experts. -/
theorem index_6 : ∀ t : Fin grid0.N, win0_6.index t 0 = 2 * t.val + 1 ∧ win0_6.index t 1 = 0 ∧ win0_6.index t 2 = 0 := by decide +kernel
/-- The result window always covers the whole result. -/
theorem index_7 : ∀ t : Fin grid0.N, win0_7.index t 0 = 0 ∧ win0_7.index t 1 = 0 := by decide +kernel

/-- Every point sees the whole input. -/
theorem iblk_x (c : Dev nD) (t : Fin cfg0.N) : (iblk m c 0 t : Vec F S128x2048 .f32) = V m c main_v0 := by
  funext j
  unfold iblk
  rw [View.read_apply]
  show V m c main_v0 _ = _
  congr 1
  funext a
  apply Fin.ext
  match a with
  | ⟨0, _⟩ => show win0_0.index t 0 * 128 + 1 * (j 0).val = (j 0).val; rw [(index_0 t).1]; omega
  | ⟨1, _⟩ => show win0_0.index t 1 * 2048 + 1 * (j 1).val = (j 1).val; rw [(index_0 t).2]; omega

/-- Point `t` sees rows `128 t` to `128 t + 127` of the base weight. -/
theorem iblk_w (c : Dev nD) (t : Fin cfg0.N) (j : S128x2048.Idx) (i : S2048x2048.Idx)
    (h0 : (i 0).val = 128 * t.val + (j 0).val) (h1 : (i 1).val = (j 1).val) :
    (iblk m c 1 t : Vec F S128x2048 .f32) j = V m c main_arg1 i := by
  unfold iblk
  rw [View.read_apply]
  show V m c main_arg1 _ = _
  congr 1
  funext a
  apply Fin.ext
  match a with
  | ⟨0, _⟩ => show win0_1.index t 0 * 128 + 1 * (j 0).val = (i 0).val; rw [(index_1 t).1]; omega
  | ⟨1, _⟩ => show win0_1.index t 1 * 2048 + 1 * (j 1).val = (i 1).val; rw [(index_1 t).2]; omega

/-- Every point sees the whole bias. -/
theorem iblk_bias (c : Dev nD) (t : Fin cfg0.N) : (iblk m c 2 t : Vec F S1x2048 .f32) = V m c main_v1 := by
  funext j
  unfold iblk
  rw [View.read_apply]
  show V m c main_v1 _ = _
  congr 1
  funext a
  apply Fin.ext
  match a with
  | ⟨0, _⟩ => show win0_2.index t 0 * 1 + 1 * (j 0).val = (j 0).val; rw [(index_2 t).1]; omega
  | ⟨1, _⟩ => show win0_2.index t 1 * 2048 + 1 * (j 1).val = (j 1).val; rw [(index_2 t).2]; omega

/-- Every point sees the whole down-projection. -/
theorem iblk_a (c : Dev nD) (t : Fin cfg0.N) : (iblk m c 3 t : Vec F S256x2048 .f32) = V m c main_arg3 := by
  funext j
  unfold iblk
  rw [View.read_apply]
  show V m c main_arg3 _ = _
  congr 1
  funext a
  apply Fin.ext
  match a with
  | ⟨0, _⟩ => show win0_3.index t 0 * 256 + 1 * (j 0).val = (j 0).val; rw [(index_3 t).1]; omega
  | ⟨1, _⟩ => show win0_3.index t 1 * 2048 + 1 * (j 1).val = (j 1).val; rw [(index_3 t).2]; omega

/-- Every point sees the whole router weight. -/
theorem iblk_wr (c : Dev nD) (t : Fin cfg0.N) : (iblk m c 4 t : Vec F S64x2048 .f32) = V m c main_arg5 := by
  funext j
  unfold iblk
  rw [View.read_apply]
  show V m c main_arg5 _ = _
  congr 1
  funext a
  apply Fin.ext
  match a with
  | ⟨0, _⟩ => show win0_4.index t 0 * 64 + 1 * (j 0).val = (j 0).val; rw [(index_4 t).1]; omega
  | ⟨1, _⟩ => show win0_4.index t 1 * 2048 + 1 * (j 1).val = (j 1).val; rw [(index_4 t).2]; omega

/-- Point `t` sees, in one window, experts `4 t` and `4 t + 1`, -/
theorem iblk_b0 (c : Dev nD) (t : Fin cfg0.N) (j : S2x2048x256.Idx) (i : S64x2048x256.Idx)
    (h0 : (i 0).val = 4 * t.val + (j 0).val) (h1 : (i 1).val = (j 1).val) (h2 : (i 2).val = (j 2).val) :
    (iblk m c 5 t : Vec F S2x2048x256 .f32) j = V m c main_arg4 i := by
  unfold iblk
  rw [View.read_apply]
  show V m c main_arg4 _ = _
  congr 1
  funext a
  apply Fin.ext
  match a with
  | ⟨0, _⟩ => show win0_5.index t 0 * 2 + 1 * (j 0).val = (i 0).val; rw [(index_5 t).1]; omega
  | ⟨1, _⟩ => show win0_5.index t 1 * 2048 + 1 * (j 1).val = (i 1).val; rw [(index_5 t).2.1]; omega
  | ⟨2, _⟩ => show win0_5.index t 2 * 256 + 1 * (j 2).val = (i 2).val; rw [(index_5 t).2.2]; omega

/-- and in another, experts `4 t + 2` and `4 t + 3`. -/
theorem iblk_b1 (c : Dev nD) (t : Fin cfg0.N) (j : S2x2048x256.Idx) (i : S64x2048x256.Idx)
    (h0 : (i 0).val = 4 * t.val + 2 + (j 0).val) (h1 : (i 1).val = (j 1).val) (h2 : (i 2).val = (j 2).val) :
    (iblk m c 6 t : Vec F S2x2048x256 .f32) j = V m c main_arg4 i := by
  unfold iblk
  rw [View.read_apply]
  show V m c main_arg4 _ = _
  congr 1
  funext a
  apply Fin.ext
  match a with
  | ⟨0, _⟩ => show win0_6.index t 0 * 2 + 1 * (j 0).val = (i 0).val; rw [(index_6 t).1]; omega
  | ⟨1, _⟩ => show win0_6.index t 1 * 2048 + 1 * (j 1).val = (i 1).val; rw [(index_6 t).2.1]; omega
  | ⟨2, _⟩ => show win0_6.index t 2 * 256 + 1 * (j 2).val = (i 2).val; rw [(index_6 t).2.2]; omega

end Cert.KernelIdeal.Blocks
end
-- ==== Proof.Accumulate.lean ====
module

public import proofs.«01_k».proof.Proof.Body
public import proofs.«01_k».proof.Proof.Blocks

@[expose] public section

set_option maxRecDepth 16384

noncomputable section

open Idealize.ShloMosaic Idealize.ShloMosaic.TcCoe Idealize.SL.Sem
open Idealize.ShloMosaic.Pipeline (Dat)

namespace Cert.KernelIdeal.Accumulate

open Cert.KernelIdeal Cert.KernelIdeal.Gen

variable {F : FTy → Type} [FloatOps F]
variable (m : (ℓ : Loc nD τ sig) → Buf (Elt F) ℓ)

/-- The rounded input, as the first point leaves it in the scratch. -/
def xb (c : Dev nD) : Vec F S128x2048 .bf16 := k0_pay3 (V m c main_v0 : Vec F S128x2048 .f32)

/-- The weighted hidden activations, as the first point leaves them in the scratch. -/
def hw (c : Dev nD) : Vec F S64x128x256 .bf16 :=
  Body.weighted (V m c main_v0 : Vec F S128x2048 .f32) (V m c main_arg3 : Vec F S256x2048 .f32) (V m c main_arg5 : Vec F S64x2048 .f32)

/-- The accumulator after each grid point: the bias, then one step per point. -/
def acc (c : Dev nD) : (n : ℕ) → n < cfg0.N → Vec F S128x2048 .f32
  | 0, h => Body.step (grid0.coords ⟨0, h⟩) (xb m c) (hw m c) (iblk m c 1 ⟨0, h⟩) (iblk m c 5 ⟨0, h⟩) (iblk m c 6 ⟨0, h⟩)
      (k0_pay12 (V m c main_v1 : Vec F S1x2048 .f32))
  | n + 1, h => Body.step (grid0.coords ⟨n + 1, h⟩) (xb m c) (hw m c) (iblk m c 1 ⟨n + 1, h⟩) (iblk m c 5 ⟨n + 1, h⟩)
      (iblk m c 6 ⟨n + 1, h⟩) (acc c n (Nat.lt_of_succ_lt h))

/-- After every grid point the staging buffers hold the accumulator and the two unchanged scratches. -/
theorem outsAt_eq (c : Dev nD) : ∀ (n : ℕ) (h : n < cfg0.N), outsAt0 m c n h = (acc m c n h, xb m c, hw m c)
  | 0, h => by
    refine (outsAt0_A m c ⟨0, h⟩ rfl).trans ?_
    rw [Body.out_A, Body.scratch_x_A, Body.scratch_h_A, Blocks.iblk_x, Blocks.iblk_bias, Blocks.iblk_a, Blocks.iblk_wr]
    rfl
  | n + 1, h => by
    have hN : cfg0.N = 16 := N_0
    have hB : ¬(⟨n + 1, h⟩ : Fin cfg0.N).val % 16 = 0 := by dsimp only; omega
    rw [outsAt0_B m c ⟨n + 1, h⟩ hB, Body.out_B]
    have e := outsAt_eq c n (Nat.lt_of_succ_lt h)
    show (Body.step _ (outsAt0 m c n _).2.1 (outsAt0 m c n _).2.2 _ _ _ (outsAt0 m c n _).1, (outsAt0 m c n _).2.1, (outsAt0 m c n _).2.2) = _
    rw [e]
    rfl

/-- The last grid point. -/
def last : Fin cfg0.N := ⟨15, by rw [show cfg0.N = 16 from N_0]; decide⟩

/-- The kernel's result array: the accumulator after the last point. -/
def result (c : Dev nD) : Buf (Elt F) ((c : Thread nD τ).loc main_v2) := acc m c 15 last.isLt

/-- The one write-back, at the last point, writes it. -/
theorem flushed_eq (c : Dev nD) (t : Fin cfg0.N) (hf : (cfg0.win 7).flush t = true) :
    (dats m 0 c).flushed 7 t = ((cfg0.win 7).blk t).view.read (Elt F) (result m c) := by
  have hN : cfg0.N = 16 := N_0
  have h3 : t.val = 15 := by have := (flush0_7 t).mp hf; have := t.isLt; omega
  obtain rfl : t = last := Fin.ext h3
  show (cfg0.win 7).cut (grid0.coords last) ((dats m 0 c).after 7 last) = _
  rw [after0_7, outsAt_eq]
  have hz' : (fun a => win0_7.index last a * main_v2.ty.shape.size a) = fun _ => 0 := funext fun a => by fin_cases a <;> decide
  exact (Memref.read_access_unit_zero (Elt F) main_v2 hz' (fun a => by rw [congrFun hz' a]; simp) (result m c)).symm

/-- So the kernel's output array ends holding the result. -/
theorem final (c : Dev nD) : (dats m 0 c).arrAt 7 cfg0.N = result m c :=
  (dats m 0 c).arrAt_eq_of_cover 7 (result m c) (flushed_eq m c) fun i =>
    ⟨last, (flush0_7 last).mpr rfl, by
      show i ∈ ((View.whole main_v2).slice (win0_7.rect last)).set
      rw [View.set_slice_whole, Rect.mem_set_unit]
      intro a
      have h0 : (i 0 : Nat) < 128 := (i 0).isLt
      have h1 : (i 1 : Nat) < 2048 := (i 1).isLt
      match a with
      | ⟨0, _⟩ => show win0_7.index last 0 * win0_7.size 0 ≤ (i 0 : Nat) ∧ (i 0 : Nat) < win0_7.index last 0 * win0_7.size 0 + win0_7.xsize (grid0.coords last) 0
                  rw [show win0_7.index last 0 * win0_7.size 0 = 0 from by decide +kernel, show win0_7.xsize (grid0.coords last) 0 = 128 from by decide +kernel]; omega
      | ⟨1, _⟩ => show win0_7.index last 1 * win0_7.size 1 ≤ (i 1 : Nat) ∧ (i 1 : Nat) < win0_7.index last 1 * win0_7.size 1 + win0_7.xsize (grid0.coords last) 1
                  rw [show win0_7.index last 1 * win0_7.size 1 = 0 from by decide +kernel, show win0_7.xsize (grid0.coords last) 1 = 2048 from by decide +kernel]; omega⟩

end Cert.KernelIdeal.Accumulate
end
-- ==== Proof.KernelRun.lean ====
module

public import proofs.«01_k».proof.Proof.Accumulate

@[expose] public section

set_option maxRecDepth 16384

noncomputable section

open Idealize.ShloMosaic Idealize.ShloMosaic.TcCoe Idealize.SL.Sem
open Idealize.ShloMosaic.Pipeline (Dat)

namespace Cert.KernelIdeal.KernelRun

open Cert.KernelIdeal Cert.KernelIdeal.Gen

variable {F : FTy → Type} [FloatOps F]
variable (m : (ℓ : Loc nD τ sig) → Buf (Elt F) ℓ) (ρ : Dev nD → PrngReg)

/-- The region finds the input reshaped to a matrix, -/
theorem V_x (c : Dev nD) : V m c main_v0
    = shapeCast S128x2048 (m ((c : Thread nD τ).loc main_arg0)) shapeCasts_S128x1x2048_S128x2048 := by
  unfold V V0
  simp only [hostOps0, List.flatten_cons, List.flatten_nil, List.append_nil, List.cons_append, List.nil_append, StableHlo.after_cons, StableHlo.after_nil]
  rw [StableHlo.reshape_result_ne _ _ _ _ _ _ _ (by decide), StableHlo.reshape_result]
  rfl

/-- and the bias reshaped to a row. -/
theorem V_bias (c : Dev nD) : V m c main_v1
    = shapeCast S1x2048 (m ((c : Thread nD τ).loc main_arg2)) shapeCasts_S2048_S1x2048 := by
  unfold V V0
  simp only [hostOps0, List.flatten_cons, List.flatten_nil, List.append_nil, List.cons_append, List.nil_append, StableHlo.after_cons, StableHlo.after_nil]
  rw [StableHlo.reshape_result, StableHlo.reshape_result_ne _ _ _ _ _ _ _ (by decide)]
  rfl

/-- The last host line reshapes the kernel's result. -/
theorem tail_result (c : Dev nD) : Pipeline.afterTail₀ cfgs (dats m) 0 (V0 m) [hostOps1] c main_v3
    = shapeCast S128x1x2048 (Accumulate.result m c) shapeCasts_S128x2048_S128x1x2048 := by
  unfold Pipeline.afterTail₀
  simp only [hostOps1, List.flatten_cons, List.flatten_nil, List.append_nil, List.cons_append, List.nil_append, StableHlo.after_cons, StableHlo.after_nil]
  rw [StableHlo.reshape_result]
  have e : Pipeline.withArrays (cfgs 0).spec c (V0 m c) (fun w => (dats m 0 c).arrAt w (cfgs 0).N) (Proc.devRef .tc (Pipeline.arrRef spec0 7))
      = (dats m 0 c).arrAt 7 cfg0.N :=
    Pipeline.withArrays_arr_shared _ c (V0 m c) _ ((dats m 0 c).arrAt_sharedIn sharedIn0 (V0 m c) (A_eq m c) cfg0.N) 7
  show shapeCast _ (Pipeline.withArrays (cfgs 0).spec c (V0 m c) (fun w => (dats m 0 c).arrAt w (cfgs 0).N) (Proc.devRef .tc (Pipeline.arrRef spec0 7))) _ = _
  rw [e, Accumulate.final]
  rfl

/-- The kernel's run: the result reshaped, every argument unchanged. -/
theorem run : θ_run defs (onTc (τ := τ) (main (F := F))) ⟨m, fun _ => 0, ρ⟩ fun r => ∀ c : Dev nD,
      r.2.mem ((c.tc : Thread nD τ).loc main_v3) = shapeCast S128x1x2048 (Accumulate.result m c) shapeCasts_S128x2048_S128x1x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v3 (Pipeline.mem_restRefs_of main_v3 (by decide) (by decide))).trans (tail_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 6).trans (((dats m 0 c).arrAt_in 6 rfl _).trans ((A_eq m c 6).trans (V_main_arg4 m c))),
      ((h c).1 4).trans (((dats m 0 c).arrAt_in 4 rfl _).trans ((A_eq m c 4).trans (V_main_arg5 m c)))⟩)
    (run_main m ρ)

end Cert.KernelIdeal.KernelRun
end
-- ==== Proof.Payloads.lean ====
module

public import proofs.«01_k».proof.Proof.Body
public import Idealize.ShloMosaic.Lib.Pointwise

@[expose] public section

set_option maxRecDepth 16384

noncomputable section

open Idealize.ShloMosaic Idealize.ShloMosaic.TcCoe Idealize.SL.Sem

namespace Cert.KernelIdeal.Payloads

open Cert.KernelIdeal Cert.KernelIdeal.Gen

/-- The last payload adds four experts' products to the accumulator. -/
theorem pay1_apply (v22 : FVec Ideal S128x2048 .f32) (v27 : FVec Ideal S128x256 .bf16) (v30 : FVec Ideal S2048x256 .bf16)
    (v36 : Vec Ideal S1x128x256 .bf16) (v38 : Vec Ideal S1x2048x256 .f32) (v46 : Vec Ideal S1x128x256 .bf16)
    (v48 : Vec Ideal S1x2048x256 .f32) (v53 : Vec Ideal S128x2048 .f32) (t : Fin 128) (d : Fin 2048) :
    k0_pay1 v22 v27 v30 (constant S128x2048 .f32 0x00000000#32) v36 v38 v46 v48 v53 (ix2 t d)
      = (v53 (ix2 t d) : EReal) + (v22 (ix2 t d) + (∑ r : Fin 256, (v27 (ix2 t r) : EReal) * v30 (ix2 d r))
        + (∑ r : Fin 256, (v36 (ix3 0 t r) : EReal) * v38 (ix3 0 d r)) + ∑ r : Fin 256, (v46 (ix3 0 t r) : EReal) * v48 (ix3 0 d r)) := by
  pointwise [k0_pay1]

/-- The 128 columns gain their part of the base product. -/
theorem pay13_apply (v3 : Vec Ideal S128x2048 .bf16) (v4 : Vec Ideal S128x2048 .f32) (v9 : Vec Ideal S128x128 .f32) (t d : Fin 128) :
    k0_pay13 v3 v4 v9 (ix2 t d) = (v9 (ix2 t d) : EReal) + ∑ k : Fin 2048, (v3 (ix2 t k) : EReal) * v4 (ix2 d k) := by
  pointwise [k0_pay13]

/-- The first expert's product. -/
theorem pay14_apply (v17 : Vec Ideal S1x128x256 .bf16) (v19 : Vec Ideal S1x2048x256 .f32) (t : Fin 128) (d : Fin 2048) :
    k0_pay14 v17 v19 (ix2 t d) = ∑ r : Fin 256, (v17 (ix3 0 t r) : EReal) * v19 (ix3 0 d r) := by
  pointwise [k0_pay14]

/-- An expert's hidden row with its axis of one dropped. -/
theorem pay15_apply (v : Vec Ideal S1x128x256 .bf16) (t : Fin 128) (r : Fin 256) :
    k0_pay15 v (ix2 t r) = v (ix3 0 t r) := by
  pointwise [k0_pay15]

/-- An expert's up-projection with its axis of one dropped; the rounding is exact. -/
theorem pay16_apply (v : Vec Ideal S1x2048x256 .f32) (d : Fin 2048) (r : Fin 256) :
    k0_pay16 v (ix2 d r) = (v (ix3 0 d r) : EReal) := by
  pointwise [k0_pay16]

/-- The bias repeated over the tokens. -/
theorem pay12_apply (v : Vec Ideal S1x2048 .f32) (t : Fin 128) (d : Fin 2048) :
    k0_pay12 v (ix2 t d) = v (ix2 0 d) := by
  pointwise [k0_pay12]

/-- The rounded input is the input. -/
theorem pay3_apply (v : Vec Ideal S128x2048 .f32) (t : Fin 128) (d : Fin 2048) :
    k0_pay3 v (ix2 t d) = (v (ix2 t d) : EReal) := by
  pointwise [k0_pay3, k0_pay2]

/-- The down-projection product. -/
theorem pay4_apply (x : Vec Ideal S128x2048 .f32) (a : Vec Ideal S256x2048 .f32) (t : Fin 128) (r : Fin 256) :
    k0_pay4 x a (ix2 t r) = ∑ k : Fin 2048, (x (ix2 t k) : EReal) * a (ix2 r k) := by
  pointwise [k0_pay4, k0_pay2]

end Cert.KernelIdeal.Payloads
end
-- ==== Proof.StepValue.lean ====
module

public import proofs.«01_k».proof.Proof.Accumulate
public import proofs.«01_k».proof.Proof.Payloads
public import Idealize.ShloMosaic.Lib.Pipeline.ValueKit.Tiles

@[expose] public section

set_option maxRecDepth 16384

noncomputable section

open Idealize.ShloMosaic Idealize.ShloMosaic.TcCoe Idealize.SL.Sem

namespace Cert.KernelIdeal.StepValue

open Cert.KernelIdeal Cert.KernelIdeal.Gen Cert.KernelIdeal.Body Cert.KernelIdeal.Payloads Cert.KernelIdeal.Accumulate

variable (i : grid0.Coords)

/-- A hidden row the grid point reads is one expert's matrix of the scratch. -/
theorem hiddenRow_apply (r : Fin 4) (hw : Vec Ideal S64x128x256 .bf16) (t : Fin 128) (q : Fin 256) (h : 4 * (i 0).val + r.val < 64) :
    hiddenRow i r hw (ix3 0 t q) = hw (ix3 ⟨4 * (i 0).val + r.val, h⟩ t q) := by
  unfold hiddenRow
  refine View.ld_unit_apply_of hw _ _ _ _ _ fun a => ?_
  refine Eq.trans ?_ (congrArg (· + _) (congrFun (k0_off2_eq i r) a).symm)
  fin_cases a
  · rfl
  · exact (Nat.zero_add _).symm
  · exact (Nat.zero_add _).symm

/-- The first expert of a block. -/
theorem expertLo_apply (b : Vec Ideal S2x2048x256 .f32) (d : Fin 2048) (q : Fin 256) : expertLo b (ix3 0 d q) = b (ix3 0 d q) := by
  unfold expertLo
  refine View.ld_unit_apply_of b _ _ _ _ _ fun a => ?_
  fin_cases a
  · rfl
  · exact (Nat.zero_add _).symm
  · exact (Nat.zero_add _).symm

/-- The second expert of a block. -/
theorem expertHi_apply (b : Vec Ideal S2x2048x256 .f32) (d : Fin 2048) (q : Fin 256) : expertHi b (ix3 0 d q) = b (ix3 1 d q) := by
  unfold expertHi
  refine View.ld_unit_apply_of b _ _ _ _ _ fun a => ?_
  fin_cases a
  · rfl
  · exact (Nat.zero_add _).symm
  · exact (Nat.zero_add _).symm

/-- Adding the base product of 128 columns: those columns gain their part, the others keep what they had. -/
theorem overlay_apply (xb : Vec Ideal S128x2048 .bf16) (w : Vec Ideal S128x2048 .f32) (W : Vec Ideal S2048x2048 .f32)
    (prev : Vec Ideal S128x2048 .f32) (h : (i 0).val < 16)
    (hW : ∀ (j : Fin 128) (k : Fin 2048), w (ix2 j k) = W (ix2 ⟨128 * (i 0).val + j.val, by omega⟩ k)) (t : Fin 128) (d : Fin 2048) :
    (colRect i).overlay prev (k0_pay13 xb w (View.ld prev (colRect i))) (ix2 t d)
      = (prev (ix2 t d) : EReal) + if d.val / 128 = (i 0).val then ∑ k : Fin 2048, (xb (ix2 t k) : EReal) * W (ix2 d k) else 0 := by
  by_cases hd : d.val / 128 = (i 0).val
  · rw [if_pos hd]
    obtain ⟨j, hj⟩ : ∃ j : Fin 128, d = ⟨128 * (i 0).val + j.val, by omega⟩ :=
      ⟨⟨d.val - 128 * (i 0).val, by omega⟩, Fin.ext (by show d.val = _ + (_ - _); omega)⟩
    have e : (ix2 t d : S128x2048.Idx) = (colRect i).emb (ix2 t j) := by
      funext a
      apply Fin.ext
      show _ = k0_off1 i a + 1 * _
      rw [k0_off1_eq, Nat.one_mul]
      fin_cases a
      · exact (Nat.zero_add _).symm
      · exact congrArg Fin.val hj
    have e' : View.ld prev (colRect i) (ix2 t j) = prev (ix2 t d) := congrArg prev e.symm
    conv_lhs => rw [e]
    refine (Rect.overlay_emb (colRect i) prev _ (ix2 t j)).trans ?_
    refine (pay13_apply xb w _ t j).trans ?_
    rw [e']
    simp only [hW, ← hj]
  · rw [if_neg hd, add_zero]
    refine Rect.overlay_of_not_mem (colRect i) prev _ ?_
    unfold colRect
    rw [Rect.mem_set_unit]
    intro hm
    have h1 := hm 1
    rw [k0_off1_eq] at h1
    have h2 : 128 * (i 0).val ≤ d.val := h1.1
    have h3 : d.val < 128 * (i 0).val + 128 := h1.2
    omega

/-- One expert's part of an output entry (nothing past the last expert). -/
def part (hw : Vec Ideal S64x128x256 .bf16) (B : Vec Ideal S64x2048x256 .f32) (t : Fin 128) (d : Fin 2048) (e : ℕ) : EReal :=
  if h : e < 64 then ∑ r : Fin 256, (hw (ix3 ⟨e, h⟩ t r) : EReal) * B (ix3 ⟨e, h⟩ d r) else 0

/-- What one grid point makes of the accumulator, entry by entry. -/
theorem step_apply (xb : Vec Ideal S128x2048 .bf16) (hw : Vec Ideal S64x128x256 .bf16) (w : Vec Ideal S128x2048 .f32)
    (b0 b1 : Vec Ideal S2x2048x256 .f32) (W : Vec Ideal S2048x2048 .f32) (B : Vec Ideal S64x2048x256 .f32)
    (prev : Vec Ideal S128x2048 .f32) (h : (i 0).val < 16)
    (hW : ∀ (j : Fin 128) (k : Fin 2048), w (ix2 j k) = W (ix2 ⟨128 * (i 0).val + j.val, by omega⟩ k))
    (h0 : ∀ (e : Fin 2) (d : Fin 2048) (q : Fin 256), b0 (ix3 e d q) = B (ix3 ⟨4 * (i 0).val + e.val, by omega⟩ d q))
    (h1 : ∀ (e : Fin 2) (d : Fin 2048) (q : Fin 256), b1 (ix3 e d q) = B (ix3 ⟨4 * (i 0).val + 2 + e.val, by omega⟩ d q))
    (t : Fin 128) (d : Fin 2048) :
    step i xb hw w b0 b1 prev (ix2 t d)
      = ((prev (ix2 t d) : EReal) + if d.val / 128 = (i 0).val then ∑ k : Fin 2048, (xb (ix2 t k) : EReal) * W (ix2 d k) else 0)
        + (part hw B t d (4 * (i 0).val) + part hw B t d (4 * (i 0).val + 1) + part hw B t d (4 * (i 0).val + 2)
          + part hw B t d (4 * (i 0).val + 3)) := by
  unfold step
  rw [pay1_apply, overlay_apply i xb w W prev h hW, pay14_apply]
  simp only [pay15_apply, pay16_apply, expertLo_apply, expertHi_apply, h0, h1]
  have e (r : Fin 4) (q : Fin 256) : hiddenRow i r hw (ix3 0 t q) = hw (ix3 ⟨4 * (i 0).val + r.val, by omega⟩ t q) :=
    hiddenRow_apply i r hw t q _
  simp only [e]
  unfold part
  rw [dif_pos (by omega), dif_pos (by omega), dif_pos (by omega), dif_pos (by omega)]
  rfl

variable (m : (ℓ : Loc nD τ sig) → Buf (Elt Ideal) ℓ) (c : Dev nD)

/-- The bias row the region finds, -/
def biasRow : Vec Ideal S1x2048 .f32 := V m c main_v1

/-- the base weights, -/
def baseW : Vec Ideal S2048x2048 .f32 := V m c main_arg1

/-- and the experts' up-projections. -/
def ups : Vec Ideal S64x2048x256 .f32 := V m c main_arg4

/-- One grid point's step on the arrays, entry by entry. -/
theorem step_at (t : Fin 128) (d : Fin 2048) (n : ℕ) (h : n < cfg0.N) (prev : Vec Ideal S128x2048 .f32) :
    step (grid0.coords ⟨n, h⟩) (xb m c) (hw m c) (iblk m c 1 ⟨n, h⟩) (iblk m c 5 ⟨n, h⟩) (iblk m c 6 ⟨n, h⟩) prev (ix2 t d)
      = ((prev (ix2 t d) : EReal) + if d.val / 128 = n then
          ∑ k : Fin 2048, (xb m c (ix2 t k) : EReal) * baseW m c (ix2 d k) else 0)
        + (part (hw m c) (ups m c) t d (4 * n) + part (hw m c) (ups m c) t d (4 * n + 1)
          + part (hw m c) (ups m c) t d (4 * n + 2) + part (hw m c) (ups m c) t d (4 * n + 3)) := by
  have e : (grid0.coords ⟨n, h⟩ 0).val = n := Blocks.coord_val ⟨n, h⟩
  have hn : (grid0.coords ⟨n, h⟩ 0).val < 16 := by rw [e]; exact h.trans_eq N_0
  refine (step_apply (grid0.coords ⟨n, h⟩) (xb m c) (hw m c) _ _ _ (baseW m c) (ups m c) prev hn
    (fun j k => Blocks.iblk_w m c _ _ _ ?_ rfl) (fun j k q => Blocks.iblk_b0 m c _ _ _ ?_ rfl rfl)
    (fun j k q => Blocks.iblk_b1 m c _ _ _ ?_ rfl rfl) t d).trans ?_
  · show 128 * _ + _ = _
    rw [e]
    rfl
  · show 4 * _ + _ = _
    rw [e]
    rfl
  · show 4 * _ + 2 + _ = _
    rw [e]
    rfl
  · rw [e]

/-- The accumulator after grid point `n`: the bias, the base product where its columns have been reached, and the
experts up to the point's last. -/
theorem acc_apply (t : Fin 128) (d : Fin 2048) : ∀ (n : ℕ) (h : n < cfg0.N),
    acc m c n h (ix2 t d)
      = ((biasRow m c (ix2 0 d) : EReal) + if d.val / 128 ≤ n then
          ∑ k : Fin 2048, (xb m c (ix2 t k) : EReal) * baseW m c (ix2 d k) else 0)
        + ∑ e ∈ Finset.range (4 * (n + 1)), part (hw m c) (ups m c) t d e
  | 0, h => by
    refine (step_at m c t d 0 h _).trans ?_
    rw [pay12_apply, show (V m c main_v1 : Vec Ideal S1x2048 .f32) = biasRow m c from rfl]
    simp only [Finset.sum_range_succ, Finset.sum_range_zero, Nat.le_zero, zero_add, Nat.mul_zero, Nat.mul_one]
  | n + 1, h => by
    refine (step_at m c t d (n + 1) h _).trans ?_
    rw [acc_apply t d n (Nat.lt_of_succ_lt h), show 4 * (n + 1 + 1) = 4 * (n + 1) + 1 + 1 + 1 + 1 by ring]
    simp only [Finset.sum_range_succ]
    rcases Nat.lt_trichotomy (d.val / 128) (n + 1) with hd | hd | hd
    · rw [if_pos (by omega), if_neg (by omega), if_pos (by omega)]
      ac_nf
    · rw [if_neg (by omega), if_pos hd, if_pos (by omega)]
      ac_nf
    · rw [if_neg (by omega), if_neg (by omega), if_neg (by omega)]
      ac_nf

/-- The kernel's array, entry by entry: base product plus bias, plus every expert's part. -/
theorem result_apply (t : Fin 128) (d : Fin 2048) :
    (result m c : Vec Ideal S128x2048 .f32) (ix2 t d)
      = ((∑ k : Fin 2048, (xb m c (ix2 t k) : EReal) * baseW m c (ix2 d k))
          + biasRow m c (ix2 0 d))
        + ∑ n : Fin 64, ∑ r : Fin 256, (hw m c (ix3 n t r) : EReal) * ups m c (ix3 n d r) := by
  refine (acc_apply m c t d 15 last.isLt).trans ?_
  rw [if_pos (by omega), add_comm (_ : EReal) (∑ k : Fin 2048, _), Finset.sum_range]
  refine congrArg _ (Finset.sum_congr rfl fun n _ => ?_)
  unfold part
  rw [dif_pos n.isLt]

end Cert.KernelIdeal.StepValue
end
-- ==== Proof.TopTwo.lean ====
module

public import Idealize.ShloMosaic.Lib.Pointwise
public import Idealize.ShloMosaic.Lib.SortFacts

@[expose] public section

noncomputable section

open Idealize.ShloMosaic

namespace Cert.TopTwo

variable {n : ℕ}

/-- Entry `x` of a row ranks before entry `y`: it is greater, or equal and to the left. -/
def Ranks (p : Fin n → EReal) (x y : Fin n) : Prop := p y < p x ∨ (p y = p x ∧ x < y)

/-- The comparison the reference sorts a row by. -/
def before (p : Fin n → EReal) (x y : Fin n) : Bool := decide (p y < p x)

/-- Inserting an index left of all others into a ranked list keeps it ranked. -/
theorem ranked_insert (p : Fin n → EReal) (a : Fin n) (l : List (Fin n)) (hl : l.Pairwise (Ranks p))
    (ha : ∀ b ∈ l, a < b) : (insertBefore (before p) a l).Pairwise (Ranks p) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem _ hc)⟩
      rcases List.mem_cons.mp ((perm_insertBefore _ a l).mem_iff.mp hc) with rfl | hc'
      · exact Or.inl (by simpa [before] using h)
      · exact hl.1 c hc'
    · rename_i h
      have hb : p b ≤ p a := by simpa [before] using h
      refine List.pairwise_cons.mpr ⟨fun c hc => ?_, List.pairwise_cons.mpr hl⟩
      have hcb : p c ≤ p b := by
        rcases List.mem_cons.mp hc with rfl | hc'
        · exact le_rfl
        · rcases hl.1 c hc' with h' | h'
          · exact h'.le
          · exact h'.1.le
      rcases lt_or_eq_of_le (hcb.trans hb) with h' | h'
      · exact Or.inl h'
      · exact Or.inr ⟨h', ha c hc⟩

/-- A stable sort of increasing indices is ranked. -/
theorem ranked_sort (p : Fin n → EReal) (l : List (Fin n)) (hl : l.Pairwise (· < ·)) :
    (stableSort (before p) l).Pairwise (Ranks p) := by
  induction l with
  | nil => exact List.Pairwise.nil
  | cons a l ih =>
    rw [List.pairwise_cons] at hl
    exact ranked_insert p a _ (ih hl.2) fun b hb => hl.1 b ((perm_stableSort _ l).mem_iff.mp hb)

/-- Of two sorted positions the earlier one's source ranks first. -/
theorem ranks_sorted (p : Fin n → EReal) (i j : Fin n) (hij : i < j) :
    Ranks p (sortedFrom (before p) i) (sortedFrom (before p) j) := by
  have h := List.pairwise_iff_get.mp (ranked_sort p (List.finRange n) (List.pairwise_lt_finRange n))
  exact h (i.cast (length_sortPositions n _).symm) (j.cast (length_sortPositions n _).symm) hij

/-- Entry `a` ranks before every other entry of the row. -/
def First (p : Fin n → EReal) (a : Fin n) : Prop := ∀ k, k ≠ a → Ranks p a k

/-- The index the sort puts at place `s`, of a row of 64. -/
def place (p : Fin 64 → EReal) (s : Fin 2) : Fin 64 := sortedFrom (before p) (s.castLE (by decide))

/-- The two chosen places differ. -/
theorem place_ne (p : Fin 64 → EReal) : place p 0 ≠ place p 1 := fun h =>
  absurd (congrArg Fin.val (sortedFrom_injective _ h)) (by decide)

/-- The sort's first place ranks before every other entry, -/
theorem first_place (p : Fin 64 → EReal) : First p (place p 0) := by
  intro k hk
  obtain ⟨j, rfl⟩ := sortedFrom_surjective (before p) k
  refine ranks_sorted p _ _ ?_
  by_contra h
  refine hk (congrArg _ (Fin.ext ?_))
  simp only [Fin.lt_def, Fin.val_castLE, Fin.val_zero] at h ⊢
  omega

/-- and its second place before every entry but the first. -/
theorem second_place (p : Fin 64 → EReal) (k : Fin 64) (h0 : k ≠ place p 0) (h1 : k ≠ place p 1) :
    Ranks p (place p 1) k := by
  obtain ⟨j, rfl⟩ := sortedFrom_surjective (before p) k
  refine ranks_sorted p _ _ ?_
  by_contra h
  simp only [Fin.lt_def, Fin.val_castLE, Fin.val_one] at h
  have hj : j.val = 0 ∨ j.val = 1 := by omega
  rcases hj with hj | hj
  · exact h0 (congrArg _ (Fin.ext (by simp [hj])))
  · exact h1 (congrArg _ (Fin.ext (by simp [hj])))

/-- A row's maximum, from below every number. -/
def rowMax (q : Fin 64 → EReal) : EReal := (Finset.univ : Finset (Fin 64)).fold max ⊥ q

/-- The least index at which a row has the value `v`, as a word (64 where there is none). -/
def firstIdx (q : Fin 64 → EReal) (v : EReal) : BitVec 32 :=
  (Finset.univ : Finset (Fin 64)).fold IntOp.minsi (2147483647#32) fun k => if q k = v then BitVec.ofNat 32 k.val else 64#32

/-- The first-ranked entry is the maximum, -/
theorem rowMax_of_first {q : Fin 64 → EReal} {a : Fin 64} (h : First q a) : rowMax q = q a := by
  refine le_antisymm ((Finset.fold_max_le _).mpr ⟨bot_le, fun k _ => ?_⟩) ((Finset.le_fold_max _).mpr (Or.inr ⟨a, Finset.mem_univ _, le_rfl⟩))
  by_cases hk : k = a
  · rw [hk]
  · rcases h k hk with h | h
    · exact h.le
    · exact h.1.le

/-- The smaller of two words, read as integers. -/
theorem toInt_minsi (x y : BitVec 32) : (IntOp.minsi x y).toInt = min x.toInt y.toInt := by
  unfold IntOp.minsi
  simp only [BitVec.slt, decide_eq_true_eq]
  split <;> omega

/-- The word of an expert number reads as that number. -/
theorem toInt_ofNat (k : Fin 64) : (BitVec.ofNat 32 k.val).toInt = k.val := by
  revert k; decide

/-- Two expert numbers with one word are one number. -/
theorem ofNat_inj (k a : Fin 64) : BitVec.ofNat 32 k.val = BitVec.ofNat 32 a.val ↔ k = a := by
  refine ⟨fun h => Fin.ext ?_, fun h => by rw [h]⟩
  have := congrArg BitVec.toInt h
  rw [toInt_ofNat, toInt_ofNat] at this
  exact_mod_cast this

/-- and the least index of the maximum is its index. -/
theorem firstIdx_of_first {q : Fin 64 → EReal} {a : Fin 64} (h : First q a) : firstIdx q (q a) = BitVec.ofNat 32 a.val := by
  refine BitVec.eq_of_toInt_eq ?_
  unfold firstIdx
  rw [← Finset.fold_hom (op' := min) (m := BitVec.toInt) toInt_minsi, toInt_ofNat]
  refine le_antisymm ((Finset.fold_min_le _).mpr (Or.inr ⟨a, Finset.mem_univ _, ?_⟩)) ((Finset.le_fold_min _).mpr ⟨?_, fun k _ => ?_⟩)
  · rw [if_pos rfl, toInt_ofNat]
  · have : (2147483647#32 : BitVec 32).toInt = 2147483647 := by decide
    rw [this]; have := a.isLt; omega
  · split
    · rename_i hk
      rw [toInt_ofNat]
      by_cases hka : k = a
      · rw [hka]
      · rcases h k hka with h' | h'
        · exact absurd hk h'.ne
        · exact_mod_cast h'.2.le
    · have : (64#32 : BitVec 32).toInt = 64 := by decide
      rw [this]; have := a.isLt; omega

end Cert.TopTwo
end
-- ==== Proof.Weights.lean ====
module

public import proofs.«01_k».proof.Proof.TopTwo

@[expose] public section

noncomputable section

open Idealize.ShloMosaic

namespace Cert.TopTwo

/-- The small constant both programs add to the sum of the two chosen weights. -/
def eps : EReal := Ideal.ofBits .f32 0x358637BD#32

/-- A row with entry `i` (as a word) replaced by minus one: what the kernel searches the second time. -/
def knockOut (p : Fin 64 → EReal) (i : BitVec 32) (k : Fin 64) : EReal := if BitVec.ofNat 32 k.val = i then -1 else p k

/-- The kernel's routing weight: the two largest entries found by two searches, each divided by their sum. -/
def searched (p : Fin 64 → EReal) (k : Fin 64) : EReal :=
  if BitVec.ofNat 32 k.val = firstIdx p (rowMax p)
      ∨ BitVec.ofNat 32 k.val = firstIdx (knockOut p (firstIdx p (rowMax p))) (rowMax (knockOut p (firstIdx p (rowMax p)))) then
    Ideal.div (p k) (rowMax p + rowMax (knockOut p (firstIdx p (rowMax p))) + eps)
  else 0

/-- How often the sort's first two places name entry `k`. -/
def mask (p : Fin 64 → EReal) (k : Fin 64) : EReal := ∑ s : Fin 2, if place p s = k then 1 else 0

/-- The reference's routing weight: the row masked to the sort's first two places, divided by its sum. -/
def masked (p : Fin 64 → EReal) (k : Fin 64) : EReal :=
  Ideal.div (p k * mask p k) ((∑ j : Fin 64, p j * mask p j) + eps)

/-- The small constant added to the denominator is positive. -/
theorem eps_pos : 0 < eps := by
  unfold eps
  simp [Ideal.ofBits, Ideal.ieee, -EReal.coe_mul]

/-- Two different indices are named by a pair of tests as one test of either. -/
theorem count_two (a b k : Fin 64) (hab : a ≠ b) :
    ((if a = k then 1 else 0 : EReal) + if b = k then 1 else 0) = if k = a ∨ k = b then 1 else 0 := by
  by_cases h0 : k = a
  · subst h0
    rw [if_pos rfl, if_neg hab.symm, if_pos (Or.inl rfl), add_zero]
  · by_cases h1 : k = b
    · subst h1
      rw [if_neg hab, if_pos rfl, if_pos (Or.inr rfl), zero_add]
    · rw [if_neg (Ne.symm h0), if_neg (Ne.symm h1), if_neg (by tauto), add_zero]

/-- A row masked to two different entries sums to the two. -/
theorem sum_two (p : Fin 64 → EReal) (a b : Fin 64) (hab : a ≠ b) :
    (∑ j : Fin 64, p j * if j = a ∨ j = b then 1 else 0) = p a + p b := by
  have h : ∀ j, (p j * if j = a ∨ j = b then 1 else 0) = (if j = a then p j else 0) + (if j = b then p j else 0) := by
    intro j
    by_cases h0 : j = a
    · subst h0
      rw [if_pos (Or.inl rfl), if_pos rfl, if_neg hab, mul_one, add_zero]
    · by_cases h1 : j = b
      · subst h1
        rw [if_pos (Or.inr rfl), if_neg h0, if_pos rfl, mul_one, zero_add]
      · rw [if_neg (by tauto), if_neg h0, if_neg h1, mul_zero, add_zero]
  rw [Finset.sum_congr rfl fun j _ => h j, Finset.sum_add_distrib]
  simp only [Finset.sum_ite_eq', Finset.mem_univ, if_true]

/-- The mask is one at the two chosen places and zero elsewhere. -/
theorem mask_eq (p : Fin 64 → EReal) (k : Fin 64) : mask p k = if k = place p 0 ∨ k = place p 1 then 1 else 0 := by
  unfold mask
  rw [Fin.sum_univ_two]
  exact count_two _ _ _ (place_ne p)

/-- The masked row sums to its two chosen entries. -/
theorem sum_masked (p : Fin 64 → EReal) : (∑ j : Fin 64, p j * mask p j) = p (place p 0) + p (place p 1) :=
  (Finset.sum_congr rfl fun j _ => by rw [mask_eq]).trans (sum_two p _ _ (place_ne p))

/-- On a row of nonnegative entries the two searches find what the sort puts first and second. -/
theorem searched_eq_masked_of_nonneg (p : Fin 64 → EReal) (hp : ∀ k, 0 ≤ p k) (k : Fin 64) : searched p k = masked p k := by
  have e1 : rowMax p = p (place p 0) := rowMax_of_first (first_place p)
  have i1 : firstIdx p (rowMax p) = BitVec.ofNat 32 (place p 0).val := by rw [e1]; exact firstIdx_of_first (first_place p)
  have hb : knockOut p (BitVec.ofNat 32 (place p 0).val) (place p 1) = p (place p 1) := by
    unfold knockOut; rw [if_neg]; rw [ofNat_inj]; exact (place_ne p).symm
  have f2 : First (knockOut p (BitVec.ofNat 32 (place p 0).val)) (place p 1) := by
    intro j hj
    by_cases hja : j = place p 0
    · left
      rw [hb]; unfold knockOut
      rw [if_pos (by rw [hja])]
      exact lt_of_lt_of_le (by norm_num) (hp _)
    · have hkj : knockOut p (BitVec.ofNat 32 (place p 0).val) j = p j := by
        unfold knockOut; rw [if_neg]; rw [ofNat_inj]; exact hja
      unfold Ranks
      rw [hb, hkj]
      exact second_place p j hja hj
  have e2 := rowMax_of_first f2
  have i2 := firstIdx_of_first f2
  unfold searched masked
  rw [i1, e2, i2, hb, e1, sum_masked, mask_eq]
  simp only [ofNat_inj]
  split
  · rw [mul_one]
  · rw [mul_zero, Ideal.zero_div]
    exact (lt_of_lt_of_le eps_pos (le_add_of_nonneg_left (add_nonneg (hp _) (hp _)))).ne'

/-- On a row of nothing but minus infinity both programs' weights are zero. -/
theorem searched_eq_masked_of_bot (p : Fin 64 → EReal) (hp : ∀ k, p k = ⊥) (k : Fin 64) : searched p k = masked p k := by
  have hd : ∀ x : EReal, Ideal.div x ⊥ = 0 := fun x => by simp [Ideal.div]
  have f1 : First p 0 := fun j hj => Or.inr ⟨by rw [hp, hp], Fin.pos_of_ne_zero hj⟩
  have e1 : rowMax p = ⊥ := (rowMax_of_first f1).trans (hp 0)
  unfold searched masked
  rw [sum_masked, hp (place p 0), e1, EReal.bot_add, EReal.bot_add, EReal.bot_add, EReal.bot_add, hd, hd]
  split <;> rfl

/-- The two programs' weights agree on a row that is nonnegative or nothing but minus infinity. -/
theorem searched_eq_masked (p : Fin 64 → EReal) (hp : (∀ k, 0 ≤ p k) ∨ ∀ k, p k = ⊥) (k : Fin 64) : searched p k = masked p k :=
  hp.elim (searched_eq_masked_of_nonneg p · k) (searched_eq_masked_of_bot p · k)

/-- A row's softmax, after subtracting its maximum. -/
def softmax (l : Fin 64 → EReal) (k : Fin 64) : EReal :=
  Ideal.div (Ideal.exp (l k - max ⊥ (rowMax l))) (∑ j : Fin 64, Ideal.exp (l j - max ⊥ (rowMax l)))

/-- An exponential is never negative. -/
theorem exp_nonneg (x : EReal) : 0 ≤ Ideal.exp x := by
  induction x with
  | bot => exact le_rfl
  | top => exact le_top
  | coe r => exact EReal.coe_nonneg.mpr (Real.exp_pos r).le

/-- A softmax is nonnegative, unless the sum it divides by is zero: then it is minus infinity throughout. -/
theorem softmax_cases (l : Fin 64 → EReal) : (∀ k, 0 ≤ softmax l k) ∨ ∀ k, softmax l k = ⊥ := by
  have hs : 0 ≤ ∑ j : Fin 64, Ideal.exp (l j - max ⊥ (rowMax l)) := Finset.sum_nonneg fun j _ => exp_nonneg _
  by_cases h : (∑ j : Fin 64, Ideal.exp (l j - max ⊥ (rowMax l))) = 0
  · right
    intro k
    have hk : Ideal.exp (l k - max ⊥ (rowMax l)) = 0 :=
      le_antisymm (h ▸ Finset.single_le_sum (f := fun j => Ideal.exp (l j - max ⊥ (rowMax l))) (fun j _ => exp_nonneg _) (Finset.mem_univ k)) (exp_nonneg _)
    unfold softmax
    rw [h, hk]; simp [Ideal.div]
  · left
    intro k
    unfold softmax Ideal.div
    rw [if_neg h]
    exact mul_nonneg (exp_nonneg _) (EReal.inv_nonneg_of_nonneg hs)

end Cert.TopTwo
end
-- ==== Proof.Router.lean ====
module

public import proofs.«01_k».proof.Proof.Payloads
public import proofs.«01_k».proof.Proof.Weights

@[expose] public section

set_option maxRecDepth 16384

noncomputable section

open Idealize.ShloMosaic Idealize.ShloMosaic.TcCoe Idealize.SL.Sem

namespace Cert.KernelIdeal.Router

open Cert.KernelIdeal Cert.KernelIdeal.Gen Cert.TopTwo

/-- The word the kernel starts its maxima from is minus infinity. -/
theorem negInf_word : Ideal.ofBits .f32 0xFF800000#32 = ⊥ := by simp [Ideal.ofBits, Ideal.ieee]

/-- The word the kernel knocks the first choice out with is minus one. -/
theorem negOne_word : Ideal.ofBits .f32 0xBF800000#32 = -1 := by
  rw [show (-1 : EReal) = ((-1 : ℝ) : EReal) from rfl]
  simp [Ideal.ofBits, Ideal.ieee, -EReal.coe_mul, -EReal.coe_neg]; norm_num

/-- A select on an equality of words is a choice on it; -/
theorem select_eq {α : Type} (a b : BitVec 32) (x y : α) :
    Scalar.select (IntOp.cmpi .eq a b) x y = if a = b then x else y := by
  rw [WordCmp.cmpi_eq_eq, WordCmp.select_ofBool]
  simp only [decide_eq_true_eq]

/-- and on two equalities joined, a choice on either. -/
theorem select_or {α : Type} (a b c : BitVec 32) (x y : α) :
    Scalar.select (IntOp.ori (IntOp.cmpi .eq a b) (IntOp.cmpi .eq a c)) x y = if a = b ∨ a = c then x else y := by
  rw [WordCmp.cmpi_eq_eq, WordCmp.cmpi_eq_eq, WordCmp.ori_ofBool, WordCmp.select_ofBool]
  simp only [Bool.or_eq_true, decide_eq_true_eq]

/-- Row `t` of the router's logits. -/
def logits (x : Vec Ideal S128x2048 .f32) (wr : Vec Ideal S64x2048 .f32) (t : Fin 128) (k : Fin 64) : EReal :=
  ∑ i : Fin 2048, (x (ix2 t i) : EReal) * wr (ix2 k i)

/-- Row `t` of the router's probabilities. -/
def probs (x : Vec Ideal S128x2048 .f32) (wr : Vec Ideal S64x2048 .f32) (t : Fin 128) : Fin 64 → EReal :=
  softmax (logits x wr t)

variable (x : Vec Ideal S128x2048 .f32) (wr : Vec Ideal S64x2048 .f32) (t : Fin 128)

/-- The kernel's softmax, entry by entry. -/
theorem pay5_apply (k : Fin 64) : k0_pay5 x wr (ix2 t k) = probs x wr t k := by
  pointwise [k0_pay5, k0_pay2]
  rw [negInf_word]
  rfl

/-- The first search's maximum. -/
theorem pay6_apply : k0_pay6 x wr (ix2 t 0) = rowMax (probs x wr t) := by
  pointwise [k0_pay6]
  rw [negInf_word]
  exact congrArg rowMax (funext fun k => pay5_apply x wr t k)

/-- The first search's index. -/
theorem pay7_apply : k0_pay7 x wr (ix2 t 0) = firstIdx (probs x wr t) (rowMax (probs x wr t)) := by
  pointwise [k0_pay7]
  rw [pay6_apply]
  simp only [pay5_apply]
  rfl

/-- The row with the first choice knocked out. -/
theorem pay8_apply (k : Fin 64) :
    k0_pay8 x wr (ix2 t k) = knockOut (probs x wr t) (firstIdx (probs x wr t) (rowMax (probs x wr t))) k := by
  pointwise [k0_pay8]
  rw [negOne_word, pay7_apply, pay5_apply]
  exact select_eq _ _ _ _

/-- The second search's maximum. -/
theorem pay9_apply : k0_pay9 x wr (ix2 t 0)
    = rowMax (knockOut (probs x wr t) (firstIdx (probs x wr t) (rowMax (probs x wr t)))) := by
  pointwise [k0_pay9]
  rw [negInf_word]
  exact congrArg rowMax (funext fun k => pay8_apply x wr t k)

/-- The second search's candidate words. -/
theorem pay10_apply (k : Fin 64) : k0_pay10 x wr (ix2 t k)
    = if knockOut (probs x wr t) (firstIdx (probs x wr t) (rowMax (probs x wr t))) k
        = rowMax (knockOut (probs x wr t) (firstIdx (probs x wr t) (rowMax (probs x wr t)))) then BitVec.ofNat 32 k.val else 64#32 := by
  pointwise [k0_pay10]
  rw [pay8_apply, pay9_apply]

/-- The scratch of weighted activations: expert `k`'s routing weight for token `t` times the token's down-projection. -/
theorem weighted_apply (a : Vec Ideal S256x2048 .f32) (r : Fin 256) (k : Fin 64) :
    Body.weighted x a wr (ix3 k t r)
      = searched (probs x wr t) k * ∑ i : Fin 2048, (x (ix2 t i) : EReal) * a (ix2 r i) := by
  unfold Body.weighted
  pointwise [k0_pay11]
  simp only [pay5_apply, pay6_apply, pay7_apply, pay9_apply, pay10_apply, Payloads.pay4_apply]
  refine (select_or _ _ _ _ _).trans ?_
  unfold searched
  rw [ite_mul, zero_mul]
  rfl

end Cert.KernelIdeal.Router
end
-- ==== Proof.Reference.lean ====
module

public import proofs.«01_k».proof.Proof.Gen.ReferenceIdeal.Read
public import proofs.«01_k».proof.Proof.Weights
public import Idealize.ShloMosaic.Lib.WordCmp

@[expose] public section

set_option maxRecDepth 16384

noncomputable section

open Idealize.ShloMosaic Idealize.ShloMosaic.TcCoe Idealize.SL.Sem

namespace Cert.ReferenceIdeal.Entries

open Cert.ReferenceIdeal Cert.ReferenceIdeal.Gen Cert.ReferenceIdeal.Read Cert.TopTwo

variable (x : (⟨S128x1x2048, .f32⟩ : BufTy).Contents (Elt Ideal)) (w : (⟨S2048x2048, .f32⟩ : BufTy).Contents (Elt Ideal))
  (bias : (⟨S2048, .f32⟩ : BufTy).Contents (Elt Ideal)) (a : (⟨S256x2048, .f32⟩ : BufTy).Contents (Elt Ideal))
  (b : (⟨S64x2048x256, .f32⟩ : BufTy).Contents (Elt Ideal)) (wr : (⟨S64x2048, .f32⟩ : BufTy).Contents (Elt Ideal))

/-- Row `t` of the router's logits. -/
def logits (t : Fin 128) (k : Fin 64) : EReal := ∑ i : Fin 2048, (x (ix3 t 0 i) : EReal) * wr (ix2 k i)

/-- Row `t` of the router's probabilities. -/
def probs (t : Fin 128) : Fin 64 → EReal := softmax (logits x wr t)

/-- The word of negative infinity reads as the least value. -/
theorem negInf_word : Ideal.ofBits .f32 0xFF800000#32 = ⊥ := by simp [Ideal.ofBits, Ideal.ieee]

/-- The reference's logits, entry by entry. -/
theorem v8_apply (t : Fin 128) (k : Fin 64) : val_main_v8 x wr (ix3 t 0 k) = logits x wr t k := by
  pointwise [val_main_v8, val_main_v7]
  rfl

/-- The reference's largest logit of a row. -/
theorem v9_apply (t : Fin 128) : val_main_v9 x wr (ix2 t 0) = rowMax (logits x wr t) := by
  pointwise [val_main_v9, val_main_cst]
  simp only [v8_apply, negInf_word]
  rfl

/-- The reference's softmax, entry by entry. -/
theorem v19_apply (t : Fin 128) (k : Fin 64) : val_main_v19 x wr (ix3 t 0 k) = probs x wr t k := by
  pointwise [val_main_v19, val_main_v18, val_main_v17, val_main_v16, val_main_v15, val_main_v14, val_main_v13, val_main_v12, val_main_v11, val_main_v10, val_main_cst_0, val_main_cst_1]
  simp only [v8_apply, v9_apply, negInf_word]
  rfl

/-- One place along the last axis of a row of probabilities. -/
theorem along_eq (t : Fin 128) (k q : Fin 64) :
    Shape.Idx.along (s := S128x1x64) (ix3 t 0 q) (2 : Fin 3) k = ix3 t 0 k := by
  funext a
  fin_cases a <;> rfl

/-- Where "greater" holds as a word, it holds. -/
theorem gt_word (u v : EReal) : (FloatOps.cmpfTotal (F := Ideal) (φ := .f32) CmpDirection.gt u v == 1#1) = decide (v < u) := by
  show (BitVec.ofBool (decide (v < u)) == 1#1) = _
  cases decide (v < u) <;> rfl

/-- Sorting pairs along the last axis: the second half at an index is the one at the place the stable sort names. -/
theorem sort_second (cmp : EReal × BitVec 32 → EReal × BitVec 32 → BitVec 1) (p : FVec Ideal S128x1x64 .f32) (y : IVec S128x1x64 32)
    (j : S128x1x64.Idx) : (Host.sort2 S128x1x64 2 cmp p y).2 j
      = y (j.along (2 : Fin 3) (sortedFrom (fun k k' : Fin 64 => cmp (p (j.along (2 : Fin 3) k), y (j.along (2 : Fin 3) k))
          (p (j.along (2 : Fin 3) k'), y (j.along (2 : Fin 3) k')) == 1#1) (j 2))) := by
  unfold Host.sort2
  rw [dif_pos (show 2 < S128x1x64.rank by decide)]
  rfl

/-- Taking the first two places of the last axis. -/
theorem slice_apply (y : IVec S128x1x64 32) (t : Fin 128) (s : Fin 2) :
    extractStridedSlice S128x1x2 (fun _ => 0) y sliceFits_S128x1x64_S128x1x2 (ix3 t 0 s) = y (ix3 t 0 (s.castLE (by decide))) := by
  refine congrArg y ?_
  funext a
  apply Fin.ext
  fin_cases a <;> exact Nat.zero_add _

/-- The positions along the last axis, as words. -/
def places : IVec S128x1x64 32 := fun i => if hd : 2 < S128x1x64.rank then iotaInDim S128x1x64 32 ⟨2, hd⟩ i else 0#32

/-- A position's word. -/
theorem places_apply (t : Fin 128) (k : Fin 64) : places (ix3 t 0 k) = BitVec.ofNat 32 k.val := by
  unfold places
  rw [dif_pos (show 2 < S128x1x64.rank by decide)]
  rfl

/-- The stable sort of a row of values by "greater", carrying the places. -/
theorem sorted_places (p : FVec Ideal S128x1x64 .f32) (t : Fin 128) (q : Fin 64) :
    (Host.sort2 S128x1x64 2 (fun l r => FloatOps.cmpfTotal (F := Ideal) (φ := .f32) CmpDirection.gt l.1 r.1) p places).2 (ix3 t 0 q)
      = BitVec.ofNat 32 (sortedFrom (before fun k => p (ix3 t 0 k)) q).val := by
  rw [sort_second]
  have f : (fun k k' : Fin 64 => FloatOps.cmpfTotal (F := Ideal) (φ := .f32) CmpDirection.gt (p (ix3 t 0 k)) (p (ix3 t 0 k')) == 1#1)
      = before fun k => p (ix3 t 0 k) := by
    funext k k'
    exact gt_word _ _
  simp only [along_eq]
  rw [f]
  generalize before (fun k => p (ix3 t 0 k)) = R
  exact (congrArg places (along_eq t (sortedFrom R q) q)).trans (places_apply t (sortedFrom R q))

/-- Picking the largest two of each row with their places: the places are those of the stable sort. -/
theorem topK_index (p : FVec Ideal S128x1x64 .f32) (t : Fin 128) (s : Fin 2) :
    (Host.topK S128x1x2 2 (FloatOps.cmpfTotal CmpDirection.gt) p sliceFits_S128x1x64_S128x1x2).2 (ix3 t 0 s)
      = BitVec.ofNat 32 (place (fun k => p (ix3 t 0 k)) s).val := by
  have e : (Host.topK S128x1x2 2 (FloatOps.cmpfTotal (F := Ideal) (φ := .f32) CmpDirection.gt) p sliceFits_S128x1x64_S128x1x2).2
      = extractStridedSlice S128x1x2 (fun _ => 0) (Host.sort2 S128x1x64 2 (fun l r => FloatOps.cmpfTotal (F := Ideal) (φ := .f32) CmpDirection.gt l.1 r.1)
        p places).2 sliceFits_S128x1x64_S128x1x2 := rfl
  refine (congrFun e _).trans ((slice_apply _ t s).trans ?_)
  exact sorted_places p t _

/-- Its two chosen indices. -/
theorem indices_apply (t : Fin 128) (s : Fin 2) :
    val_main_indices x wr (ix3 t 0 s) = BitVec.ofNat 32 (place (probs x wr t) s).val := by
  unfold val_main_indices
  rw [topK_index]
  simp only [v19_apply]

/-- Its mask. -/
theorem v21_apply (t : Fin 128) (k : Fin 64) : val_main_v21 x wr (ix3 t 0 k) = mask (probs x wr t) k := by
  pointwise [val_main_v21, val_main_v20, val_main_call0_v4, val_main_call0_v3, val_main_call0_v2, val_main_call0_v1, val_main_call0_v0, val_main_cst_2]
  unfold mask
  refine Finset.sum_congr rfl fun s _ => ?_
  rw [indices_apply, Idealize.ShloMosaic.WordCmp.cmpi_eq_eq]
  by_cases h : place (probs x wr t) s = k
  · rw [if_pos h, h]
    simp [FloatOps.uitofp]
  · rw [if_neg h]
    have : ¬ BitVec.ofNat 32 (place (probs x wr t) s).val = BitVec.ofNat 32 k.val := fun e => h ((ofNat_inj _ _).mp e)
    simp [this, FloatOps.uitofp]

/-- Its routing weights. -/
theorem v28_apply (t : Fin 128) (k : Fin 64) : val_main_v28 x wr (ix3 t 0 k) = masked (probs x wr t) k := by
  pointwise [val_main_v28, val_main_v27, val_main_v26, val_main_v25, val_main_v24, val_main_v23, val_main_v22, val_main_cst_3, val_main_cst_4]
  simp only [v19_apply, v21_apply]
  rfl

/-- The reference's result, entry by entry. -/
theorem v35_apply (t : Fin 128) (d : Fin 2048) : val_main_v35 x w bias a b wr (ix3 t 0 d)
    = ((∑ i : Fin 2048, (x (ix3 t 0 i) : EReal) * w (ix2 d i)) + bias (ix1 d))
      + ∑ k : Fin 64, ∑ r : Fin 256, masked (probs x wr t) k * (∑ i : Fin 2048, (x (ix3 t 0 i) : EReal) * a (ix2 r i)) * b (ix3 k d r) := by
  pointwise [val_main_v35, val_main_v34, val_main_v33, val_main_v32, val_main_v31, val_main_v30, val_main_v29, val_main_v6, val_main_v5, val_main_v4, val_main_v3, val_main_v2, val_main_v1, val_main_v0]
  simp only [v28_apply]

end Cert.ReferenceIdeal.Entries
end
-- ==== Proof.Equation.lean ====
module

public import proofs.«01_k».proof.Proof.KernelRun
public import proofs.«01_k».proof.Proof.StepValue
public import proofs.«01_k».proof.Proof.Router
public import proofs.«01_k».proof.Proof.Reference

@[expose] public section

set_option maxRecDepth 16384

noncomputable section

open Idealize.ShloMosaic Idealize.ShloMosaic.TcCoe Idealize.SL.Sem

namespace Cert.Equation

open Cert.KernelIdeal Cert.KernelIdeal.Gen

/-- The input, with its axis of one dropped, at an entry. -/
theorem cast_x (v : Vec Ideal S128x1x2048 .f32) (t : Fin 128) (k : Fin 2048) :
    shapeCast S128x2048 v shapeCasts_S128x1x2048_S128x2048 (ix2 t k) = v (ix3 t 0 k) := by
  pointwise

/-- The bias as a row, at an entry. -/
theorem cast_bias (v : Vec Ideal S2048 .f32) (d : Fin 2048) :
    shapeCast S1x2048 v shapeCasts_S2048_S1x2048 (ix2 0 d) = v (ix1 d) := by
  pointwise

/-- The result with its axis of one, at an entry. -/
theorem cast_result (v : Vec Ideal S128x2048 .f32) (t : Fin 128) (d : Fin 2048) :
    shapeCast S128x1x2048 v shapeCasts_S128x2048_S128x1x2048 (ix3 t 0 d) = v (ix2 t d) := by
  pointwise

variable (m : (ℓ : Loc nD τ sig) → Buf (Elt Ideal) ℓ) (c : Dev nD)

/-- The input at launch, -/
def argX : Vec Ideal S128x1x2048 .f32 := m ((c : Thread nD τ).loc main_arg0)

/-- the bias, -/
def argBias : Vec Ideal S2048 .f32 := m ((c : Thread nD τ).loc main_arg2)

/-- the down-projection, -/
def argA : Vec Ideal S256x2048 .f32 := m ((c : Thread nD τ).loc main_arg3)

/-- and the router. -/
def argWr : Vec Ideal S64x2048 .f32 := m ((c : Thread nD τ).loc main_arg5)

/-- The scratch's copy of the input, at an entry. -/
theorem xb_apply (t : Fin 128) (k : Fin 2048) :
    (Accumulate.xb m c (ix2 t k) : EReal) = argX m c (ix3 t 0 k) := by
  unfold Accumulate.xb
  rw [KernelRun.V_x]
  exact (Payloads.pay3_apply _ t k).trans (cast_x _ t k)

/-- The bias row, at an entry. -/
theorem bias_apply (d : Fin 2048) :
    StepValue.biasRow m c (ix2 0 d) = argBias m c (ix1 d) := by
  unfold StepValue.biasRow
  rw [KernelRun.V_bias]
  exact cast_bias _ d

/-- The kernel's router sees the reference's logits. -/
theorem probs_eq (x : Vec Ideal S128x1x2048 .f32) (wr : Vec Ideal S64x2048 .f32) (t : Fin 128) :
    Router.probs (shapeCast S128x2048 x shapeCasts_S128x1x2048_S128x2048) wr t = Cert.ReferenceIdeal.Entries.probs x wr t := by
  unfold Router.probs Cert.ReferenceIdeal.Entries.probs
  refine congrArg Cert.TopTwo.softmax ?_
  funext k
  unfold Router.logits Cert.ReferenceIdeal.Entries.logits
  exact Finset.sum_congr rfl fun i _ => congrArg (fun v : EReal => v * wr (ix2 k i)) (cast_x x t i)

/-- The scratch's weighted activations: the reference's routing weight times the reference's hidden activation. -/
theorem hw_apply (t : Fin 128) (r : Fin 256) (k : Fin 64) :
    (Accumulate.hw m c (ix3 k t r) : EReal)
      = Cert.TopTwo.masked (Cert.ReferenceIdeal.Entries.probs (argX m c) (argWr m c) t) k
        * ∑ i : Fin 2048, (argX m c (ix3 t 0 i) : EReal)
            * argA m c (ix2 r i) := by
  unfold Accumulate.hw
  rw [KernelRun.V_x, V_main_arg3, V_main_arg5]
  refine (Router.weighted_apply _ _ t _ r k).trans ?_
  rw [probs_eq]
  rw [Cert.TopTwo.searched_eq_masked (Cert.ReferenceIdeal.Entries.probs _ _ t) (Cert.TopTwo.softmax_cases _)]
  exact congrArg _ (Finset.sum_congr rfl fun i _ => congrArg (fun v : EReal => v * argA m c (ix2 r i)) (cast_x (argX m c) t i))

/-- The kernel's array is the reference's. -/
theorem result_eq : shapeCast S128x1x2048 (Accumulate.result m c) shapeCasts_S128x2048_S128x1x2048
    = Cert.ReferenceIdeal.Read.val_main_v35 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  funext j
  obtain ⟨t, u, d, rfl⟩ : ∃ (t : Fin 128) (u : Fin 1) (d : Fin 2048), j = ix3 t u d :=
    ⟨j 0, j 1, j 2, by funext a; fin_cases a <;> rfl⟩
  obtain rfl : u = 0 := Subsingleton.elim _ _
  refine (cast_result _ t d).trans ((StepValue.result_apply m c t d).trans (Eq.trans ?_ (Cert.ReferenceIdeal.Entries.v35_apply _ _ _ _ _ _ t d).symm))
  unfold StepValue.baseW StepValue.ups
  rw [V_main_arg1, V_main_arg4]
  simp only [xb_apply, bias_apply, hw_apply]
  rfl

end Cert.Equation
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference runs, leaves its arguments unchanged, and declares no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- From memories that agree on the arguments, the kernel and the reference end with equal results. -/
theorem algebraic : Cert.algebraic_KernelIdeal_ReferenceIdeal (hKernelIdeal := Cert.KernelIdeal.Gen.facts)
    (hReferenceIdeal := Cert.ReferenceIdeal.Gen.facts) := by
  intro m ρ m' ρ' _ same
  refine ⟨fun c => shapeCast Cert.KernelIdeal.S128x1x2048 (Cert.KernelIdeal.Accumulate.result m c)
    Cert.KernelIdeal.Gen.shapeCasts_S128x2048_S128x1x2048, Cert.KernelIdeal.KernelRun.run m ρ, ?_⟩
  refine (θ_run Cert.ReferenceIdeal.defs _ _).mono (fun r h c => ⟨?_, (h c).2⟩) (Cert.ReferenceIdeal.Value.run (F := Ideal) m' ρ')
  obtain ⟨e0, e1, e2, e3, e4, e5⟩ := same c
  rw [(h c).1, Cert.ReferenceIdeal.Read.val_main_v35_eq, e0, e1, e2, e3, e4, e5]
  exact (Cert.Equation.result_eq m c).symm

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
